-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_usable [hPre_scales_usable : Cert.Pre_scales_usable.Facts] (m : (ℓ : Loc Cert.KernelIdeal.nD Cert.KernelIdeal.τ Cert.KernelIdeal.sig) → Buf (Elt Ideal) ℓ) : Prop :=
  ∀ c : Dev Cert.KernelIdeal.nD,
    (Cert.Pre_scales_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_usable [hPre_scales_usable : Cert.Pre_scales_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_usable [hKernelIdeal : Cert.KernelIdeal.Facts] [hPre_scales_usable : Cert.Pre_scales_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_usable [hReferenceIdeal : Cert.ReferenceIdeal.Facts] [hPre_scales_usable : Cert.Pre_scales_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_usable [hKernelIdeal : Cert.KernelIdeal.Facts] [hReferenceIdeal : Cert.ReferenceIdeal.Facts] [hPre_scales_usable : Cert.Pre_scales_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_usable : Cert.Pre_scales_usable.Facts),
    quiescent_Kernel (hKernel := hKernel)
    ∧ quiescent_KernelIdeal (hKernelIdeal := hKernelIdeal)
    ∧ quiescent_KernelIdeal_pre_scales_usable (hKernelIdeal := hKernelIdeal) (hPre_scales_usable := hPre_scales_usable)
    ∧ quiescent_ReferenceIdeal (hReferenceIdeal := hReferenceIdeal)
    ∧ quiescent_ReferenceIdeal_pre_scales_usable (hReferenceIdeal := hReferenceIdeal) (hPre_scales_usable := hPre_scales_usable)
    ∧ preserves_Kernel_KernelIdeal
    ∧ algebraic_KernelIdeal_ReferenceIdeal_pre_scales_usable (hKernelIdeal := hKernelIdeal) (hReferenceIdeal := hReferenceIdeal) (hPre_scales_usable := hPre_scales_usable)
-- ==== Pre_scales_usable.lean ====
abbrev S16x2048x2048 : Shape := ⟨3, ![16, 2048, 2048]⟩
abbrev S16x2048 : Shape := ⟨2, ![16, 2048]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel

variable [Facts]

def fn {F : FTy → Type} [FloatOps F] (main_arg0 : IVec S16x2048x2048 8) (main_arg1 : FVec F S16x2048 .f32) (main_arg2 : FVec F S16x2048 .f32) : IVec S_ 1 :=
  let main_v0 : FVec F S16x2048 .f32 := Host.absf main_arg1
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_cst_0 : FVec F S_ .f32 := constant S_ .f32 0x00000000#32
  let main_v4 : FVec F S16x2048 .f32 := broadcastInDim S16x2048 ![] bcast_S_S16x2048 main_cst_0
  let main_v5 : IVec S16x2048 1 := cmpf .une main_arg2 main_v4
  let main_c_1 : IVec S_ 1 := constantI S_ 1 1#1
  let main_v6 : IVec S_ 1 := (fun x v => Host.reduce IntOp.andi x v reducesTo_S16x2048_S_d0_1 h_S_) main_v5 main_c_1
  let main_v7 : IVec S_ 1 := andi main_v3 main_v6
  main_v7
-- ==== Kernel.lean ====
abbrev S16x2048x2048 : Shape := ⟨3, ![16, 2048, 2048]⟩
abbrev S16x2048 : Shape := ⟨2, ![16, 2048]⟩
abbrev S16x2x1x1024 : Shape := ⟨4, ![16, 2, 1, 1024]⟩
abbrev S16x2x2x1024 : Shape := ⟨4, ![16, 2, 2, 1024]⟩
abbrev S1x1024x2048 : Shape := ⟨3, ![1, 1024, 2048]⟩
abbrev S1x1x2x1024 : Shape := ⟨4, ![1, 1, 2, 1024]⟩
abbrev S1024x2048 : Shape := ⟨2, ![1024, 2048]⟩
abbrev S1024x128 : Shape := ⟨2, ![1024, 128]⟩
abbrev S512x512 : Shape := ⟨2, ![512, 512]⟩
abbrev S2x1024 : Shape := ⟨2, ![2, 1024]⟩
abbrev S1024x2 : Shape := ⟨2, ![1024, 2]⟩
abbrev S1024x1 : Shape := ⟨2, ![1024, 1]⟩
abbrev S1x1024x1024 : Shape := ⟨3, ![1, 1024, 1024]⟩
abbrev S1024x1024 : Shape := ⟨2, ![1024, 1024]⟩
abbrev S1024 : Shape := ⟨1, ![1024]⟩
abbrev S1x512x512 : Shape := ⟨3, ![1, 512, 512]⟩
abbrev S512x1 : Shape := ⟨2, ![512, 1]⟩
abbrev S512 : Shape := ⟨1, ![512]⟩

abbrev nBuf : Space → Nat
  | .hbm => 7
  | .vmem => 9
  | .smem => 0
  | _ => 0

abbrev bufTy : (tb : Table) → Fin (tcTables nBuf tb) → BufTy
  | .hbm, ⟨0, _⟩ => ⟨S16x2048x2048, .i8⟩
  | .hbm, ⟨1, _⟩ => ⟨S16x2048, .f32⟩
  | .hbm, ⟨2, _⟩ => ⟨S16x2048, .f32⟩
  | .hbm, ⟨3, _⟩ => ⟨S16x2x1x1024, .f32⟩
  | .hbm, ⟨4, _⟩ => ⟨S16x2x1x1024, .f32⟩
  | .hbm, ⟨5, _⟩ => ⟨S16x2x2x1024, .f32⟩
  | .hbm, ⟨6, _⟩ => ⟨S16x2048x2048, .i8⟩
  | .local _ .vmem, ⟨0, _⟩ => ⟨S1x1024x2048, .i8⟩
  | .local _ .vmem, ⟨1, _⟩ => ⟨S1x1024x2048, .i8⟩
  | .local _ .vmem, ⟨2, _⟩ => ⟨S1x1x2x1024, .f32⟩
  | .local _ .vmem, ⟨3, _⟩ => ⟨S1x1x2x1024, .f32⟩
  | .local _ .vmem, ⟨4, _⟩ => ⟨S1x1024x2048, .i8⟩
  | .local _ .vmem, ⟨5, _⟩ => ⟨S1x1024x2048, .i8⟩
  | .local _ .vmem, ⟨6, _⟩ => ⟨S1024x2048, .f32⟩
  | .local _ .vmem, ⟨7, _⟩ => ⟨S1024x128, .f32⟩
  | .local _ .vmem, ⟨8, _⟩ => ⟨S512x512, .f32⟩
  | _, _ => ⟨S16x2048x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond6 (i : grid0.Coords) : BitVec 1 :=
  let arg1 : BitVec 32 := BitVec.ofNat 32 (i 1).val
  let c0_i32_18 : BitVec 32 := 0#32
  let v32 : BitVec 1 := Scalar.cmpi .sge arg1 c0_i32_18
  let v33 : BitVec 32 := Scalar.extui v32
  let c0_i32_19 : BitVec 32 := 0#32
  let v34 : BitVec 1 := Scalar.cmpi .ne v33 c0_i32_19
  v34

def k0_cond7 (i : grid0.Coords) : BitVec 1 :=
  let arg1 : BitVec 32 := BitVec.ofNat 32 (i 1).val
  let c0_i32_20 : BitVec 32 := 0#32
  let v35 : BitVec 1 := Scalar.cmpi .slt arg1 c0_i32_20
  let v36 : BitVec 32 := Scalar.extui v35
  let c0_i32_21 : BitVec 32 := 0#32
  let v37 : BitVec 1 := Scalar.cmpi .ne v36 c0_i32_21
  v37

def k0_cond8 (i : grid0.Coords) : BitVec 1 :=
  let arg1 : BitVec 32 := BitVec.ofNat 32 (i 1).val
  let c1_i32_22 : BitVec 32 := 1#32
  let v38 : BitVec 1 := Scalar.cmpi .sge arg1 c1_i32_22
  let v39 : BitVec 32 := Scalar.extui v38
  let c0_i32_23 : BitVec 32 := 0#32
  let v40 : BitVec 1 := Scalar.cmpi .ne v39 c0_i32_23
  v40

def k0_cond9 (i : grid0.Coords) : BitVec 1 :=
  let arg1 : BitVec 32 := BitVec.ofNat 32 (i 1).val
  let c1_i32_24 : BitVec 32 := 1#32
  let v41 : BitVec 1 := Scalar.cmpi .slt arg1 c1_i32_24
  let v42 : BitVec 32 := Scalar.extui v41
  let c0_i32_25 : BitVec 32 := 0#32
  let v43 : BitVec 1 := Scalar.cmpi .ne v42 c0_i32_25
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x2048 : Shape := ⟨3, ![16, 2048, 2048]⟩
abbrev S16x2048 : Shape := ⟨2, ![16, 2048]⟩
abbrev S16x2048x1 : Shape := ⟨3, ![16, 2048, 1]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x2048, .i8⟩
  | .hbm, ⟨1, _⟩ => ⟨S16x2048, .f32⟩
  | .hbm, ⟨2, _⟩ => ⟨S16x2048, .f32⟩
  | .hbm, ⟨3, _⟩ => ⟨S16x2048x2048, .i32⟩
  | .hbm, ⟨4, _⟩ => ⟨S16x2048x2048, .f32⟩
  | .hbm, ⟨5, _⟩ => ⟨S16x2048x1, .f32⟩
  | .hbm, ⟨6, _⟩ => ⟨S16x2048x2048, .f32⟩
  | .hbm, ⟨7, _⟩ => ⟨S16x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S16x2048x2048, .i1⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S_, .f32⟩
  | .hbm, ⟨28, _⟩ => ⟨S16x2048, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S16x2048x2048, .f32⟩
  | .hbm, ⟨38, _⟩ => ⟨S16x2048x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048x2048, .f32⟩
  | .hbm, ⟨50, _⟩ => ⟨S16x2048x2048, .f32⟩
  | .hbm, ⟨51, _⟩ => ⟨S16x2048x2048, .i32⟩
  | .hbm, ⟨52, _⟩ => ⟨S16x2048x2048, .i8⟩
  | _, _ => ⟨S16x2048x2048, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_c_4 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩

abbrev nD : Nat := 1
abbrev τ : Topo := Topo.v7x

variable {F : FTy → Type} [FloatOps F]
-- ==== Proof.Stores.lean ====
module

public import Idealize.ShloMosaic.Lib.Pipeline.ValueKit

@[expose] public section

set_option maxRecDepth 16384

/-! What a two-axis buffer holds after a list of rectangular stores, and what a load reads of it,
    one entry at a time. -/

namespace Idealize.ShloMosaic

variable {e : EltTy} {Val : EltTy → Type} [∀ e, Nonempty (Val e)]

/-- After a store of the box with corner `(o0, o1)` and extents `s0 × s1`, entry `(a, b)` is the stored value when it lies in
    the box, and what the earlier stores left otherwise. -/
theorem stored_entry {n0 n1 o0 o1 s0 s1 : ℕ} (inb : ∀ a, (![o0, o1] : Fin 2 → ℕ) a + (![s0, s1] : Fin 2 → ℕ) a ≤ (⟨2, ![n0, n1]⟩ : Shape).size a)
    (w : (⟨2, ![s0, s1]⟩ : Shape).Idx → Val e) (L : List (View.Piece Val (⟨2, ![n0, n1]⟩ : Shape) e)) (a : Fin n0) (b : Fin n1) :
    View.canon (⟨Rect.unit (s := ⟨2, ![n0, n1]⟩) ![o0, o1] ![s0, s1] inb, w⟩ :: L) (ix2 a b)
      = if h : (o0 ≤ a.val ∧ a.val < o0 + s0) ∧ (o1 ≤ b.val ∧ b.val < o1 + s1) then
          w (ix2 ⟨a.val - o0, by omega⟩ ⟨b.val - o1, by omega⟩)
        else View.canon L (ix2 a b) := by
  by_cases h : (o0 ≤ a.val ∧ a.val < o0 + s0) ∧ (o1 ≤ b.val ∧ b.val < o1 + s1)
  · rw [dif_pos h]
    have hx : (Rect.unit (s := ⟨2, ![n0, n1]⟩) ![o0, o1] ![s0, s1] inb).emb
        (ix2 (⟨a.val - o0, by omega⟩ : Fin s0) (⟨b.val - o1, by omega⟩ : Fin s1)) = ix2 a b := by
      funext k
      apply Fin.ext
      match k with
      | ⟨0, _⟩ => show o0 + 1 * (a.val - o0) = a.val; omega
      | ⟨1, _⟩ => show o1 + 1 * (b.val - o1) = b.val; omega
    rw [← hx]
    exact View.canon_cons_emb _ _ _ _
  · rw [dif_neg h]
    refine View.canon_cons_of_not_mem _ _ fun hm => h ?_
    have hm' := (Rect.mem_set_unit (inb := inb)).mp hm
    exact ⟨hm' 0, hm' 1⟩

/-- A load of the box with corner `(p0, p1)` reads, at `(a, b)`, entry `(p0 + a, p1 + b)` of what the stores left. -/
theorem loaded_entry {sig : RefSig} {κ : Kind} {sp : Space} {n0 n1 p0 p1 t0 t1 : ℕ} (v : View sig κ sp (⟨2, ![n0, n1]⟩ : Shape) e)
    (L : List (View.Piece Val (⟨2, ![n0, n1]⟩ : Shape) e))
    (inb : ∀ a, (![p0, p1] : Fin 2 → ℕ) a + (![t0, t1] : Fin 2 → ℕ) a ≤ (⟨2, ![n0, n1]⟩ : Shape).size a) (a : Fin t0) (b : Fin t1) :
    v.readCov L (Rect.unit (s := ⟨2, ![n0, n1]⟩) ![p0, p1] ![t0, t1] inb).toLoadRect (ix2 a b)
      = View.canon L (ix2 ⟨p0 + a.val, by have := inb 0; have h : p0 + t0 ≤ n0 := this; omega⟩
          ⟨p1 + b.val, by have := inb 1; have h : p1 + t1 ≤ n1 := this; omega⟩) := by
  rw [View.readCov_eq_canon']
  refine congrArg (View.canon L) ?_
  funext k
  apply Fin.ext
  match k with
  | ⟨0, _⟩ => show p0 + 1 * a.val = p0 + a.val; omega
  | ⟨1, _⟩ => show p1 + 1 * b.val = p1 + b.val; omega

end Idealize.ShloMosaic

end
-- ==== Proof.Sums.lean ====
module

public import Idealize.ShloMosaic.Lib.Pipeline.ValueKit

@[expose] public section

/-! Cutting a sum over a row of columns into the pieces the kernel adds. -/

namespace Cert.Rows

open Finset

/-- A sum over `a + b` columns is the sum over the first `a` plus the sum over the other `b`. -/
theorem sum_cut {a b n : ℕ} (h : n = a + b) (f : Fin n → EReal) :
    ∑ j, f j = (∑ k : Fin a, f ⟨k.val, by omega⟩) + ∑ k : Fin b, f ⟨a + k.val, by omega⟩ := by
  subst h
  rw [Fin.sum_univ_add]
  rfl

/-- The row of 2048 columns in four quarters. -/
theorem sum_quarters (f : Fin 2048 → EReal) :
    ∑ j, f j = (((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩ := by
  rw [sum_cut (a := 1536) (b := 512) rfl, sum_cut (a := 1024) (b := 512) rfl, sum_cut (a := 512) (b := 512) rfl]

/-- The row of 2048 columns as its first half and the two quarters of the second. -/
theorem sum_half_quarters (f : Fin 2048 → EReal) :
    ∑ j, f j = ((∑ k : Fin 1024, f ⟨k.val, by omega⟩) + ∑ k : Fin 512, f ⟨1024 + k.val, by omega⟩)
      + ∑ k : Fin 512, f ⟨1536 + k.val, by omega⟩ := by
  rw [sum_cut (a := 1536) (b := 512) rfl, sum_cut (a := 1024) (b := 512) rfl]

end Cert.Rows

end
-- ==== Proof.Scalars.lean ====
module

public import Idealize.ShloMosaic.Lib.Pipeline.ValueKit

@[expose] public section

/-! The mathematics of one row, over the extended reals: the shifted softmax of a causal row divided by a scale is the
    plain exponentials times one reciprocal; and the two ways of rounding to eight bits agree. -/

noncomputable section

namespace Cert.Rows

open Idealize.ShloMosaic Finset

/-- Rounding to even and converting to eight bits, saturating. -/
def quant (y : EReal) : BitVec 8 := Ideal.fptosi 8 (Ideal.liftRound Ideal.roundHalfEven y)

/-- Zero quantizes to zero. -/
theorem quant_zero : quant 0 = 0#8 := by
  have h : Ideal.roundHalfEven 0 = 0 := by unfold Ideal.roundHalfEven; norm_num
  unfold quant
  rw [← EReal.coe_zero, Ideal.liftRound_coe, h]
  unfold Ideal.fptosi
  rw [Ideal.toIntClamped_coe]
  norm_num

/-- Converting a whole number: the number itself, clamped. -/
theorem toIntClamped_int (lo hi k : ℤ) : Ideal.toIntClamped lo hi (((k : ℤ) : ℝ) : EReal) = max lo (min hi k) := by
  rw [Ideal.toIntClamped_coe, Int.floor_intCast, Int.ceil_intCast, ite_self]

/-- Cutting a 32-bit word of a number to eight bits gives the number's eight-bit word. -/
theorem cut_ofInt (k : ℤ) : BitVec.setWidth 8 (BitVec.ofInt 32 k) = BitVec.ofInt 8 k := by
  apply BitVec.eq_of_toNat_eq
  rw [BitVec.toNat_setWidth, BitVec.toNat_ofInt, BitVec.toNat_ofInt]
  omega

/-- The conversion of a clamped whole number. -/
theorem clip_int (k : ℤ) :
    BitVec.setWidth 8 (Ideal.fptosi 32 (min ((127 : ℝ) : EReal) (max ((-128 : ℝ) : EReal) (((k : ℤ) : ℝ) : EReal))))
      = Ideal.fptosi 8 (((k : ℤ) : ℝ) : EReal) := by
  have h : min ((127 : ℝ) : EReal) (max ((-128 : ℝ) : EReal) (((k : ℤ) : ℝ) : EReal)) = ((((min 127 (max (-128) k) : ℤ)) : ℝ) : EReal) := by
    rw [Int.cast_min, Int.cast_max, EReal.coe_strictMono.monotone.map_min, EReal.coe_strictMono.monotone.map_max]
    norm_num
  rw [h]
  unfold Ideal.fptosi
  rw [toIntClamped_int, toIntClamped_int, cut_ofInt]
  refine congrArg _ ?_
  norm_num
  omega

/-- An integer clamped to eight bits, then converted to 32 bits and cut to eight, is the saturating conversion. -/
theorem quant_clip (y : EReal) :
    BitVec.setWidth 8 (Ideal.fptosi 32 (min ((127 : ℝ) : EReal) (max ((-128 : ℝ) : EReal) (Ideal.liftRound Ideal.roundHalfEven y)))) = quant y := by
  unfold quant
  induction y with
  | bot =>
    rw [Ideal.liftRound_bot, max_eq_left bot_le]
    have h := clip_int (-128)
    rw [max_eq_left (by norm_num)] at h
    rw [h]
    unfold Ideal.fptosi
    rw [toIntClamped_int, Ideal.toIntClamped_bot]
    norm_num
  | top =>
    rw [Ideal.liftRound_top, max_eq_right le_top, min_eq_left le_top]
    have h := clip_int 127
    rw [max_eq_right (EReal.coe_le_coe_iff.mpr (by norm_num)), min_eq_left (EReal.coe_le_coe_iff.mpr (by norm_num))] at h
    rw [show ((127 : ℝ) : EReal) = (((127 : ℤ) : ℝ) : EReal) by norm_num]
    refine Eq.trans ?_ (h.trans ?_)
    · norm_num
    · unfold Ideal.fptosi
      rw [toIntClamped_int, Ideal.toIntClamped_top]
      norm_num
  | coe r => rw [Ideal.liftRound_coe]; exact clip_int _

/-- A finite real sum read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The row of logits: real up to the diagonal, minus infinity after it. -/
def logit {n : ℕ} (a : Fin n → ℝ) (i j : Fin n) : EReal := if j.val ≤ i.val then (a j : EReal) else ⊥

/-- The row's exponentials, zero after the diagonal. -/
def cexp {n : ℕ} (a : Fin n → ℝ) (i j : Fin n) : ℝ := if j.val ≤ i.val then Real.exp (a j) else 0

/-- The row's maximum is a real number. -/
theorem rowMax_real {n : ℕ} (a : Fin n → ℝ) (i : Fin n) :
    ∃ μ : ℝ, max ⊥ (Finset.univ.fold max ⊥ (logit a i)) = (μ : EReal) := by
  rw [max_eq_right bot_le]
  have hlo : (a i : EReal) ≤ Finset.univ.fold max ⊥ (logit a i) :=
    (Finset.le_fold_max _).mpr (Or.inr ⟨i, Finset.mem_univ i, by unfold logit; rw [if_pos le_rfl]⟩)
  have hhi : Finset.univ.fold max ⊥ (logit a i) < ⊤ := by
    refine Finset.fold_max_lt _ |>.mpr ⟨bot_lt_top, fun k _ => ?_⟩
    unfold logit
    split_ifs
    · exact EReal.coe_lt_top _
    · exact bot_lt_top
  refine ⟨(Finset.univ.fold max ⊥ (logit a i)).toReal, (EReal.coe_toReal hhi.ne ?_).symm⟩
  exact (lt_of_lt_of_le (EReal.bot_lt_coe _) hlo).ne'

/-- The exponential of a shifted logit is the unshifted one over a common factor. -/
theorem exp_logit_sub {n : ℕ} (a : Fin n → ℝ) (i j : Fin n) (μ : ℝ) :
    Ideal.exp (logit a i j - (μ : EReal)) = ((cexp a i j * Real.exp (-μ) : ℝ) : EReal) := by
  unfold logit cexp
  split_ifs
  · rw [← EReal.coe_sub, Ideal.exp_coe, sub_eq_add_neg, Real.exp_add]
  · rw [EReal.bot_sub, Ideal.exp_bot, zero_mul, EReal.coe_zero]

/-- The row's sum of exponentials is positive. -/
theorem cexp_sum_pos {n : ℕ} (a : Fin n → ℝ) (i : Fin n) : 0 < ∑ k, cexp a i k := by
  refine Finset.sum_pos' (fun k _ => ?_) ⟨i, Finset.mem_univ i, ?_⟩
  · unfold cexp; split_ifs
    · exact (Real.exp_pos _).le
    · exact le_rfl
  · unfold cexp; rw [if_pos le_rfl]; exact Real.exp_pos _

/-- THE EQUATION of one row: the softmax of the causal row, divided by the output scale, is the exponential times the reciprocal
    of the row sum times the scale. -/
theorem softmax_row {n : ℕ} (a : Fin n → ℝ) (i j : Fin n) (o : EReal) (ho : o ≠ 0) :
    Ideal.div (Ideal.div (Ideal.exp (logit a i j - max ⊥ (Finset.univ.fold max ⊥ (logit a i))))
        (∑ k, Ideal.exp (logit a i k - max ⊥ (Finset.univ.fold max ⊥ (logit a i))))) o
      = (cexp a i j : EReal) * Ideal.div 1 ((∑ k, (cexp a i k : EReal)) * o) := by
  obtain ⟨μ, hμ⟩ := rowMax_real a i
  rw [hμ]
  simp only [exp_logit_sub]
  rw [← coe_sum, ← coe_sum, ← Finset.sum_mul]
  have hs := cexp_sum_pos a i
  generalize (∑ k, cexp a i k) = s at *
  have hse : s * Real.exp (-μ) ≠ 0 := (mul_pos hs (Real.exp_pos _)).ne'
  have hs0 : (s : EReal) ≠ 0 := by exact_mod_cast hs.ne'
  have hso : (s : EReal) * o ≠ 0 := mul_ne_zero hs0 ho
  have hse' : ((s * Real.exp (-μ) : ℝ) : EReal) ≠ 0 := by exact_mod_cast hse
  unfold Ideal.div
  rw [if_neg ho, if_neg hse', if_neg hso, one_mul, EReal.mul_inv, ← mul_assoc, ← EReal.coe_inv, ← EReal.coe_inv,
    ← EReal.coe_mul, ← EReal.coe_mul]
  congr 2
  have := Real.exp_pos (-μ)
  field_simp

end Cert.Rows

end
-- ==== Proof.Block.lean ====
module

public import proofs.«01_k».proof.Proof.Gen.KernelIdeal.Value
public import Idealize.ShloMosaic.Lib.Pipeline.ReadBack
public import proofs.«01_k».proof.Proof.Stores
public import proofs.«01_k».proof.Proof.Sums
public import proofs.«01_k».proof.Proof.Scalars

@[expose] public section

set_option maxRecDepth 16384

/-! What one grid point writes into its block, read one entry at a time. -/

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Rows

variable (m : (ℓ : Loc nD τ sig) → Buf (Elt Ideal) ℓ)

/-- The exponential the kernel takes at row `r`, column `j` of a block. -/
def ev (x : Vec Ideal S1x1024x2048 .i8) (sc : Vec Ideal S1x1x2x1024 .f32) (r : Fin 1024) (j : Fin 2048) : EReal :=
  FloatOps.exp2 (F := Ideal) (φ := .f32) (FloatOps.sitofp (F := Ideal) .f32 (x (ix3 0 r j)) * k0_pay22 (F := Ideal) sc (ix2 r 0))

/-- The written-out exponential is `ev`. -/
theorem fold_ev (x : Vec Ideal S1x1024x2048 .i8) (sc : Vec Ideal S1x1x2x1024 .f32) (r : Fin 1024) (j : Fin 2048) :
    FloatOps.exp2 (F := Ideal) (φ := .f32) (FloatOps.sitofp (F := Ideal) .f32 (x (ix3 0 r j)) * k0_pay22 (F := Ideal) sc (ix2 r 0))
      = ev x sc r j := rfl

/-- The same with everything above the diagonal zeroed; the block's first row is row `base` of the array. -/
def cev (x : Vec Ideal S1x1024x2048 .i8) (sc : Vec Ideal S1x1x2x1024 .f32) (base : ℕ) (r : Fin 1024) (j : Fin 2048) : EReal :=
  if j.val ≤ base + r.val then ev x sc r j else 0

/-- What the block holds at row `r`, column `j` after the point. -/
def bv (x : Vec Ideal S1x1024x2048 .i8) (sc : Vec Ideal S1x1x2x1024 .f32) (base : ℕ) (r : Fin 1024) (j : Fin 2048) : BitVec 8 :=
  FloatOps.fptosi (F := Ideal) (φ := .f32) 8 (Ideal.liftRound Ideal.roundHalfEven
    (cev x sc base r j * Ideal.div 1 ((∑ k, cev x sc base r k) * k0_pay21 (F := Ideal) sc (ix2 r 1))))

/-- The lower triangle of ones the kernel keeps in scratch. -/
def IsTri (M : Vec Ideal S512x512 .f32) : Prop :=
  ∀ a b : Fin 512, M (ix2 a b) = if b.val ≤ a.val then (1 : EReal) else 0

/-- The triangle the first grid point fills the scratch with. -/
theorem tri_pay : IsTri (k0_pay20 (F := Ideal)) := by
  intro a b
  pointwise [k0_pay20]
  word_cmp

section Entry

variable (x : Vec Ideal S1x1024x2048 .i8) (sc : Vec Ideal S1x1x2x1024 .f32) (base : ℕ)

/-- An exponential times a triangle entry is the exponential with everything above the diagonal zeroed. -/
theorem cev_of_mask {r r' : Fin 1024} {j j' : Fin 2048} {P : Prop} [Decidable P] (hr : r.val = r'.val) (hj : j.val = j'.val)
    (h : P ↔ j'.val ≤ base + r'.val) : ev x sc r j * (if P then (1 : EReal) else 0) = cev x sc base r' j' := by
  obtain rfl := Fin.ext hr
  obtain rfl := Fin.ext hj
  unfold cev
  by_cases hp : P
  · rw [if_pos hp, if_pos (h.mp hp), mul_one]
  · rw [if_neg hp, if_neg fun hq => hp (h.mpr hq), mul_zero]

/-- On or below the diagonal nothing is zeroed. -/
theorem cev_of_le {r r' : Fin 1024} {j j' : Fin 2048} (hr : r.val = r'.val) (hj : j.val = j'.val)
    (h : j'.val ≤ base + r'.val) : ev x sc r j = cev x sc base r' j' := by
  obtain rfl := Fin.ext hr
  obtain rfl := Fin.ext hj
  unfold cev
  rw [if_pos h]

/-- Above the diagonal the entry is zero. -/
theorem cev_of_lt {r' : Fin 1024} {j' : Fin 2048} (h : base + r'.val < j'.val) : 0 = cev x sc base r' j' := by
  unfold cev
  rw [if_neg (by omega)]

/-- A block entry from its exponential, its row sum and its output scale. -/
theorem bv_congr {r : Fin 1024} {j : Fin 2048} {e s o : EReal} (he : e = cev x sc base r j) (hs : s = ∑ k, cev x sc base r k)
    (ho : o = k0_pay21 (F := Ideal) sc (ix2 r 1)) :
    FloatOps.fptosi (F := Ideal) (φ := .f32) 8 (Ideal.liftRound Ideal.roundHalfEven (e * Ideal.div 1 (s * o))) = bv x sc base r j := by
  subst he hs ho
  rfl

/-- Above the diagonal the block holds zero. -/
theorem bv_above {r : Fin 1024} {j : Fin 2048} (h : base + r.val < j.val) : 0#8 = bv x sc base r j := by
  unfold bv
  rw [← cev_of_lt x sc base h, zero_mul]
  exact quant_zero.symm

variable {M : Vec Ideal S512x512 .f32}

/-- Row sum, first block of rows, upper half: one masked quarter. -/
theorem rowsum_first_upper (hM : IsTri M) {r : Fin 1024} (hr : r.val < 512) :
    ∑ k : Fin 512, ev x sc r ⟨k.val, by omega⟩ * M (ix2 ⟨r.val, hr⟩ k) = ∑ k, cev x sc 0 r k := by
  rw [sum_quarters, ← add_zero (∑ k : Fin 512, _), ← add_zero (_ + _), ← add_zero (_ + _ + _)]
  refine congrArg₂ (· + ·) (congrArg₂ (· + ·) (congrArg₂ (· + ·) ?_ ?_) ?_) ?_
  · refine Finset.sum_congr rfl fun k _ => ?_
    rw [hM]; exact cev_of_mask x sc 0 rfl rfl (by simp only []; omega)
  all_goals exact (Finset.sum_eq_zero fun k _ => (cev_of_lt x sc 0 (by simp only []; omega)).symm).symm

/-- Row sum, first block of rows, lower half: one whole quarter and one masked quarter. -/
theorem rowsum_first_lower (hM : IsTri M) {r : Fin 1024} (hr : ¬r.val < 512) (r' : Fin 1024) (hr' : r'.val = r.val)
    (a : Fin 512) (ha : a.val = r.val - 512) :
    (∑ k : Fin 512, ev x sc r' ⟨k.val, by omega⟩) + ∑ k : Fin 512, ev x sc r' ⟨512 + k.val, by omega⟩ * M (ix2 a k)
      = ∑ k, cev x sc 0 r k := by
  rw [sum_quarters, ← add_zero ((∑ k : Fin 512, _) + ∑ k : Fin 512, _), ← add_zero (_ + _ + _)]
  refine congrArg₂ (· + ·) (congrArg₂ (· + ·) (congrArg₂ (· + ·) ?_ ?_) ?_) ?_
  · exact Finset.sum_congr rfl fun k _ => cev_of_le x sc 0 hr' rfl (by simp only []; omega)
  · refine Finset.sum_congr rfl fun k _ => ?_
    rw [hM]; exact cev_of_mask x sc 0 hr' rfl (by simp only []; omega)
  all_goals exact (Finset.sum_eq_zero fun k _ => (cev_of_lt x sc 0 (by simp only []; omega)).symm).symm

/-- Row sum, second block of rows, upper half: the first 1024 columns and one masked quarter. -/
theorem rowsum_second_upper (hM : IsTri M) {r : Fin 1024} (hr : r.val < 512) :
    (∑ k : Fin 1024, ev x sc r ⟨k.val, by omega⟩) + ∑ k : Fin 512, ev x sc r ⟨1024 + k.val, by omega⟩ * M (ix2 ⟨r.val, hr⟩ k)
      = ∑ k, cev x sc 1024 r k := by
  rw [sum_half_quarters, ← add_zero (_ + _)]
  refine congrArg₂ (· + ·) (congrArg₂ (· + ·) ?_ ?_) ?_
  · exact Finset.sum_congr rfl fun k _ => cev_of_le x sc 1024 rfl rfl (by simp only []; omega)
  · refine Finset.sum_congr rfl fun k _ => ?_
    rw [hM]; exact cev_of_mask x sc 1024 rfl rfl (by simp only []; omega)
  · exact (Finset.sum_eq_zero fun k _ => (cev_of_lt x sc 1024 (by simp only []; omega)).symm).symm

/-- Row sum, second block of rows, lower half: the first 1024 columns, one whole quarter and one masked quarter. -/
theorem rowsum_second_lower (hM : IsTri M) {r : Fin 1024} (hr : ¬r.val < 512) (r' : Fin 1024) (hr' : r'.val = r.val)
    (a : Fin 512) (ha : a.val = r.val - 512) :
    (∑ k : Fin 1024, ev x sc r' ⟨k.val, by omega⟩) + ((∑ k : Fin 512, ev x sc r' ⟨1024 + k.val, by omega⟩)
        + ∑ k : Fin 512, ev x sc r' ⟨1536 + k.val, by omega⟩ * M (ix2 a k))
      = ∑ k, cev x sc 1024 r k := by
  rw [sum_half_quarters, ← add_assoc]
  refine congrArg₂ (· + ·) (congrArg₂ (· + ·) ?_ ?_) ?_
  · exact Finset.sum_congr rfl fun k _ => cev_of_le x sc 1024 hr' rfl (by simp only []; omega)
  · exact Finset.sum_congr rfl fun k _ => cev_of_le x sc 1024 hr' rfl (by simp only []; omega)
  · refine Finset.sum_congr rfl fun k _ => ?_
    rw [hM]; exact cev_of_mask x sc 1024 hr' rfl (by simp only []; omega)

end Entry

/-- The first grid point leaves `bv` in its block (rows from 0), filling the triangle itself. -/
theorem block_A (c : Dev nD) (t : Fin cfg0.N) (h : t.val % 32 = 0)
    (r : Fin 1024) (j : Fin 2048) :
    (outsAt0 m c t.val t.isLt).1 (ix3 0 r j) = bv (iblk m c 0 t) (iblk m c 1 t) 0 r j := by
  rw [outsAt0_A m c t (by omega) (by omega) (by omega) (by omega) (by omega) (by omega)]; frame_out [read_unread_whole]
  generalize iblk m c 0 t = x
  generalize iblk m c 1 t = sc at *
  have hM : IsTri (k0_pay20 (F := Ideal)) := tri_pay
  generalize k0_pay20 (F := Ideal) = M at *
  canon_tiles y h
  · idx_vars y
    pointwise [k0_pay5]
    exact bv_above x sc 0 (by omega)
  · idx_vars y
    pointwise [k0_pay2, k0_pay1, k0_pay34, loaded_entry, stored_entry]
    obtain rfl : r = y1 := Fin.ext h1
    refine bv_congr x sc 0 ?_ ?_ rfl
    · simp only [fold_ev]
      split_ifs
      · rw [hM]; exact cev_of_mask x sc 0 (by simp only []; omega) (by simp only []; omega) (by simp only []; omega)
      · exact cev_of_lt x sc 0 (by omega)
      · exact cev_of_le x sc 0 (by simp only []; omega) (by simp only []; omega) (by omega)
      · rw [hM]; exact cev_of_mask x sc 0 (by simp only []) (by simp only []; omega) (by simp only []; omega)
      · exfalso; omega
    · by_cases hr : r.val < 512
      · rw [dif_neg (by omega), dif_pos hr]
        pointwise [k0_pay27, k0_pay23, loaded_entry, stored_entry]
        simp only [fold_ev]
        exact rowsum_first_upper x sc hM hr
      · rw [dif_pos (by omega)]
        pointwise [k0_pay28, k0_pay23, loaded_entry, stored_entry]
        simp only [fold_ev]
        rw [dif_pos (by omega), zero_add]
        exact rowsum_first_lower x sc hM hr ⟨512 + (r.val - 512), by omega⟩ (by simp only []; omega) ⟨r.val - 512, by omega⟩ rfl

/-- A point on the second block of rows leaves `bv` in its block, when the carried triangle is right. -/
theorem block_B (c : Dev nD) (t : Fin cfg0.N) (h : t.val % 2 = 1)
    (hM : IsTri (outsAt0 m c (t.val - 1) (Nat.lt_of_le_of_lt (Nat.sub_le _ _) t.isLt)).2) (r : Fin 1024) (j : Fin 2048) :
    (outsAt0 m c t.val t.isLt).1 (ix3 0 r j) = bv (iblk m c 0 t) (iblk m c 1 t) 1024 r j := by
  rw [outsAt0_B m c t (by omega) (by omega) (by omega) (by omega) (by omega) (by omega)]; frame_out [read_unread_whole]
  generalize iblk m c 0 t = x
  generalize iblk m c 1 t = sc at *
  generalize (outsAt0 m c (t.val - 1) (Nat.lt_of_le_of_lt (Nat.sub_le _ _) t.isLt)).2 = M at *
  canon_tiles y h
  · idx_vars y
    pointwise [k0_pay4, k0_pay1, k0_pay34, loaded_entry, stored_entry]
    obtain rfl : r = y1 := Fin.ext h1
    refine bv_congr x sc 1024 ?_ ?_ rfl
    · simp only [fold_ev]
      split_ifs
      · rw [hM]; exact cev_of_mask x sc 1024 (by simp only []; omega) (by simp only []; omega) (by simp only []; omega)
      · exact cev_of_lt x sc 1024 (by omega)
      · exact cev_of_le x sc 1024 (by simp only []; omega) (by simp only []; omega) (by omega)
      · rw [hM]; exact cev_of_mask x sc 1024 (by simp only []) (by simp only []; omega) (by simp only []; omega)
      · exfalso; omega
    · by_cases hr : r.val < 512
      · rw [dif_neg (by omega), dif_pos hr]
        pointwise [k0_pay32, k0_pay26, k0_pay24, k0_pay23, loaded_entry, stored_entry]
        simp only [fold_ev]
        exact rowsum_second_upper x sc hM hr
      · rw [dif_pos (by omega)]
        pointwise [k0_pay33, k0_pay26, k0_pay24, k0_pay23, loaded_entry, stored_entry]
        simp only [fold_ev]
        rw [dif_pos (by omega), dif_pos (by omega), zero_add]
        exact rowsum_second_lower x sc hM hr ⟨512 + (r.val - 512), by omega⟩ (by simp only []; omega) ⟨r.val - 512, by omega⟩ rfl
  · idx_vars y
    pointwise [k0_pay2, k0_pay1, k0_pay34, loaded_entry, stored_entry]
    obtain rfl : r = y1 := Fin.ext h1
    refine bv_congr x sc 1024 ?_ ?_ rfl
    · rw [dif_neg (by omega), dif_neg (by omega), dif_neg fun h => h.2.1, dif_neg fun h => h.2.1]
      pointwise [k0_pay25, k0_pay24]
      exact cev_of_le x sc 1024 rfl (by simp only []; omega) (by omega)
    · by_cases hr : r.val < 512
      · rw [dif_neg (by omega), dif_pos hr]
        pointwise [k0_pay32, k0_pay26, k0_pay24, k0_pay23, loaded_entry, stored_entry]
        simp only [fold_ev]
        exact rowsum_second_upper x sc hM hr
      · rw [dif_pos (by omega)]
        pointwise [k0_pay33, k0_pay26, k0_pay24, k0_pay23, loaded_entry, stored_entry]
        simp only [fold_ev]
        rw [dif_pos (by omega), dif_pos (by omega), zero_add]
        exact rowsum_second_lower x sc hM hr ⟨512 + (r.val - 512), by omega⟩ (by simp only []; omega) ⟨r.val - 512, by omega⟩ rfl

/-- Any other point on the first block of rows leaves `bv` in its block, when the carried triangle is right. -/
theorem block_C (c : Dev nD) (t : Fin cfg0.N) (h0 : ¬t.val % 32 = 0) (h : t.val % 2 = 0)
    (hM : IsTri (outsAt0 m c (t.val - 1) (Nat.lt_of_le_of_lt (Nat.sub_le _ _) t.isLt)).2) (r : Fin 1024) (j : Fin 2048) :
    (outsAt0 m c t.val t.isLt).1 (ix3 0 r j) = bv (iblk m c 0 t) (iblk m c 1 t) 0 r j := by
  rw [outsAt0_C m c t (by omega) (by omega) (by omega) (by omega) (by omega) (by omega)]; frame_out [read_unread_whole]
  generalize iblk m c 0 t = x
  generalize iblk m c 1 t = sc at *
  generalize (outsAt0 m c (t.val - 1) (Nat.lt_of_le_of_lt (Nat.sub_le _ _) t.isLt)).2 = M at *
  canon_tiles y h
  · idx_vars y
    pointwise [k0_pay5]
    exact bv_above x sc 0 (by omega)
  · idx_vars y
    pointwise [k0_pay2, k0_pay1, k0_pay34, loaded_entry, stored_entry]
    obtain rfl : r = y1 := Fin.ext h1
    refine bv_congr x sc 0 ?_ ?_ rfl
    · simp only [fold_ev]
      split_ifs
      · rw [hM]; exact cev_of_mask x sc 0 (by simp only []; omega) (by simp only []; omega) (by simp only []; omega)
      · exact cev_of_lt x sc 0 (by omega)
      · exact cev_of_le x sc 0 (by simp only []; omega) (by simp only []; omega) (by omega)
      · rw [hM]; exact cev_of_mask x sc 0 (by simp only []) (by simp only []; omega) (by simp only []; omega)
      · exfalso; omega
    · by_cases hr : r.val < 512
      · rw [dif_neg (by omega), dif_pos hr]
        pointwise [k0_pay27, k0_pay23, loaded_entry, stored_entry]
        simp only [fold_ev]
        exact rowsum_first_upper x sc hM hr
      · rw [dif_pos (by omega)]
        pointwise [k0_pay28, k0_pay23, loaded_entry, stored_entry]
        simp only [fold_ev]
        rw [dif_pos (by omega), zero_add]
        exact rowsum_first_lower x sc hM hr ⟨512 + (r.val - 512), by omega⟩ (by simp only []; omega) ⟨r.val - 512, by omega⟩ rfl

/-- The carried triangle is right after every point: the first point fills it and no other touches it. -/
theorem tri_carried (c : Dev nD) : ∀ (n : ℕ) (hn : n < cfg0.N), IsTri (outsAt0 m c n hn).2 := by
  intro n
  induction n with
  | zero =>
    intro hn a b
    have e := outsAt0_A m c ⟨0, hn⟩ (by simp only []) (by simp only []; omega) (by simp only []) (by simp only []; omega) (by simp only []; omega) (by simp only [])
    rw [show outsAt0 m c 0 hn = _ from e]; frame_out
    exact tri_pay a b
  | succ n ih =>
    intro hn
    have h32 : n + 1 < 32 := lt_of_lt_of_eq hn N_0
    by_cases h : (n + 1) % 2 = 1
    · have e := outsAt0_B m c ⟨n + 1, hn⟩ (by simp only []; omega) h (by simp only []; omega) h h (by simp only []; omega)
      rw [show outsAt0 m c (n + 1) hn = _ from e]; frame_out [read_unread_whole]
      exact ih _
    · have e := outsAt0_C m c ⟨n + 1, hn⟩ (by simp only []; omega) h (by simp only []; omega) h h (by simp only []; omega)
      rw [show outsAt0 m c (n + 1) hn = _ from e]; frame_out [read_unread_whole]
      exact ih _

/-- EVERY POINT leaves `bv` in its block. -/
theorem block (c : Dev nD) (t : Fin cfg0.N) (r : Fin 1024) (j : Fin 2048) :
    (outsAt0 m c t.val t.isLt).1 (ix3 0 r j) = bv (iblk m c 0 t) (iblk m c 1 t) (t.val % 2 * 1024) r j := by
  by_cases h : t.val % 2 = 1
  · rw [h]; exact block_B m c t h (tri_carried m c _ _) r j
  · have h' : t.val % 2 = 0 := by omega
    rw [h']
    by_cases h0 : t.val % 32 = 0
    · exact block_A m c t h0 r j
    · exact block_C m c t h0 h' (tri_carried m c _ _) r j

end Cert.KernelIdeal.Value

end
-- ==== Proof.Array.lean ====
module

public import proofs.«01_k».proof.Proof.Block

@[expose] public section

/-! What the result array holds after the run, entry by entry. -/

set_option maxRecDepth 16384

noncomputable section

open Idealize.ShloMosaic Idealize.ShloMosaic.TcCoe Idealize.SL.Sem
open Cert.Rows

namespace Cert.KernelIdeal.Value

open Cert.KernelIdeal Cert.KernelIdeal.Gen

variable (m : (ℓ : Loc nD τ sig) → Buf (Elt Ideal) ℓ)

/-- Where each window's block lies: grid point `t` is head `t / 2`, block of rows `t % 2`. -/
theorem places : ∀ t : Fin cfg0.N, win0_0.index t = ![t.val / 2, t.val % 2, 0] ∧ win0_1.index t = ![t.val / 2, t.val % 2, 0, 0]
    ∧ win0_2.index t = ![t.val / 2, t.val % 2, 0] ∧ t.val / 2 < 16 :=
  (by decide +kernel : ∀ t : Fin grid0.N, _)

/-- The input block of point `t` is rows `t % 2 * 1024 …` of head `t / 2`. -/
theorem read_x (c : Dev nD) (t : Fin cfg0.N) (r : Fin 1024) (j : Fin 2048) (h : Fin 16) (i : Fin 2048)
    (hh : h.val = t.val / 2) (hi : i.val = t.val % 2 * 1024 + r.val) :
    iblk m c 0 t (ix3 0 r j) = m ((c : Thread nD τ).loc main_arg0) (ix3 h i j) := by
  obtain ⟨e0, e1, e2, e3⟩ := places t
  blk_ext [iblk, V, e0]

/-- The packed scales' row 0 holds the input scales. -/
theorem packed_sx (c : Dev nD) (h : Fin 16) (b : Fin 2) (r : Fin 1024) (i : Fin 2048) (hi : i.val = b.val * 1024 + r.val) :
    V m c main_v2 (ix4 h b 0 r) = m ((c : Thread nD τ).loc main_arg1) (ix2 h i) := by
  entry_read
  pointwise
  blk_ext

/-- The packed scales' row 1 holds the output scales. -/
theorem packed_so (c : Dev nD) (h : Fin 16) (b : Fin 2) (r : Fin 1024) (i : Fin 2048) (hi : i.val = b.val * 1024 + r.val) :
    V m c main_v2 (ix4 h b 1 r) = m ((c : Thread nD τ).loc main_arg2) (ix2 h i) := by
  entry_read
  pointwise
  blk_ext

/-- Column 0 of the transposed scales is the row's input scale. -/
theorem read_sx (c : Dev nD) (t : Fin cfg0.N) (r : Fin 1024) (h : Fin 16) (i : Fin 2048)
    (hh : h.val = t.val / 2) (hi : i.val = t.val % 2 * 1024 + r.val) (sx : EReal) (hs : m ((c : Thread nD τ).loc main_arg1) (ix2 h i) = sx) :
    k0_pay22 (iblk m c 1 t) (ix2 r 0) = sx * (((Real.log 2)⁻¹ : ℝ) : EReal) := by
  obtain ⟨e0, e1, e2, e3⟩ := places t
  pointwise [k0_pay22, k0_pay21]
  rw [← hs, ← packed_sx m c h ⟨t.val % 2, by omega⟩ r i hi]
  refine congrArg₂ (· * ·) ?_ rfl
  blk_ext [iblk, e1]

/-- Column 1 of the transposed scales is the row's output scale. -/
theorem read_so (c : Dev nD) (t : Fin cfg0.N) (r : Fin 1024) (h : Fin 16) (i : Fin 2048)
    (hh : h.val = t.val / 2) (hi : i.val = t.val % 2 * 1024 + r.val) :
    k0_pay21 (iblk m c 1 t) (ix2 r 1) = m ((c : Thread nD τ).loc main_arg2) (ix2 h i) := by
  obtain ⟨e0, e1, e2, e3⟩ := places t
  pointwise [k0_pay21]
  rw [← packed_so m c h ⟨t.val % 2, by omega⟩ r i hi]
  blk_ext [iblk, e1]

/-- The result at head `h`, row `i`, column `j`: the causal softmax of the scaled row over the output scale, rounded and saturated. -/
def OUT (X : Vec Ideal S16x2048x2048 .i8) (SX SO : Vec Ideal S16x2048 .f32) (h : Fin 16) (i j : Fin 2048) : BitVec 8 :=
  let a : Fin 2048 → ℝ := fun k => ((X (ix3 h i k)).toInt : ℝ) * (SX (ix2 h i)).toReal
  quant ((cexp a i j : EReal) * Ideal.div 1 ((∑ k, (cexp a i k : EReal)) * SO (ix2 h i)))

/-- Two to the power `x · s · (1 / ln 2)` is `exp (x · s)`. -/
theorem exp2_scaled (b : BitVec 8) (s : ℝ) :
    Ideal.exp2 (((b.toInt : ℝ) : EReal) * ((s : EReal) * (((Real.log 2)⁻¹ : ℝ) : EReal))) = ((Real.exp ((b.toInt : ℝ) * s) : ℝ) : EReal) := by
  have h2 : Real.log 2 ≠ 0 := (Real.log_pos (by norm_num)).ne'
  rw [← EReal.coe_mul, ← EReal.coe_mul, Ideal.exp2_coe]
  congr 1
  change (2 : ℝ) ^ ((b.toInt : ℝ) * (s * (Real.log 2)⁻¹)) = Real.exp ((b.toInt : ℝ) * s)
  rw [Real.rpow_def_of_pos (by norm_num)]
  congr 1
  field_simp

/-- THE BLOCK AT COORDINATES: point `t` leaves `OUT` at its rows, when the row's input scale is a real number. -/
theorem block_out (c : Dev nD) (t : Fin cfg0.N) (r : Fin 1024) (j : Fin 2048) (h : Fin 16) (i : Fin 2048)
    (hh : h.val = t.val / 2) (hi : i.val = t.val % 2 * 1024 + r.val) (s : ℝ)
    (hs : m ((c : Thread nD τ).loc main_arg1) (ix2 h i) = (s : EReal)) :
    (outsAt0 m c t.val t.isLt).1 (ix3 0 r j)
      = OUT (m ((c : Thread nD τ).loc main_arg0)) (m ((c : Thread nD τ).loc main_arg1)) (m ((c : Thread nD τ).loc main_arg2)) h i j := by
  have hev : ∀ k : Fin 2048, ev (iblk m c 0 t) (iblk m c 1 t) r k
      = ((Real.exp (((m ((c : Thread nD τ).loc main_arg0) (ix3 h i k) : BitVec 8).toInt : ℝ) * s) : ℝ) : EReal) := fun k => by
    unfold ev
    rw [read_x m c t r k h i hh hi, read_sx m c t r h i hh hi _ hs]
    exact exp2_scaled _ s
  have hcev : ∀ k : Fin 2048, cev (iblk m c 0 t) (iblk m c 1 t) (t.val % 2 * 1024) r k
      = ((cexp (fun k => ((m ((c : Thread nD τ).loc main_arg0) (ix3 h i k) : BitVec 8).toInt : ℝ) * s) i k : ℝ) : EReal) := fun k => by
    unfold cev cexp
    rw [hev, ← hi]
    by_cases hk : k.val ≤ i.val
    · rw [if_pos hk, if_pos hk]
    · rw [if_neg hk, if_neg hk]; rfl
  rw [block m c t r j]
  unfold bv OUT
  simp only [hcev, read_so m c t r h i hh hi]
  rw [show (m ((c : Thread nD τ).loc main_arg1) (ix2 h i) : EReal).toReal = s from by rw [hs]; rfl]
  rfl

/-- THE ARRAY: after the run the result array holds `OUT` everywhere, when every input scale is a real number. -/
theorem final (c : Dev nD)
    (hfin : ∀ (h : Fin 16) (i : Fin 2048), ∃ s : ℝ, m ((c : Thread nD τ).loc main_arg1) (ix2 h i) = (s : EReal)) :
    (dats m 0 c).arrAt 2 cfg0.N = fun y : S16x2048x2048.Idx =>
      OUT (m ((c : Thread nD τ).loc main_arg0)) (m ((c : Thread nD τ).loc main_arg1)) (m ((c : Thread nD τ).loc main_arg2)) (y 0) (y 1) (y 2) := by
  refine (dats m 0 c).arrAt_eq_of_covers 2 _ (by decide +kernel) fun t hf y => ?_
  obtain ⟨e0, e1, e2, e3⟩ := places t
  blk_simp [e2]
  rw [after0_2]
  idx_vars y
  obtain rfl : y0 = 0 := Subsingleton.elim _ _
  obtain ⟨s, hs⟩ := hfin ⟨t.val / 2, e3⟩ ⟨t.val % 2 * 1024 + y1.val, by omega⟩
  refine (block_out m c t y1 y2 _ _ rfl rfl s hs).trans ?_
  refine congr (congr (congrArg (OUT _ _ _) (Fin.ext ?_)) (Fin.ext ?_)) (Fin.ext ?_)
  all_goals
    symm
    blk_simp [e2]
    try rfl

end Cert.KernelIdeal.Value

end
-- ==== Proof.Reference.lean ====
module

public import proofs.«01_k».proof.Proof.Gen.ReferenceIdeal.Run
public import Idealize.ShloMosaic.Lib.Pipeline.ValueKit
public import Idealize.ShloMosaic.Lib.WordCmp
public import proofs.«01_k».proof.Proof.Scalars

@[expose] public section

set_option maxRecDepth 16384

/-! What the reference computes, entry by entry. -/

noncomputable section

open Idealize.ShloMosaic Idealize.ShloMosaic.TcCoe Idealize.SL.Sem
open Cert.Rows

namespace Cert.ReferenceIdeal.Value

open Cert.ReferenceIdeal Cert.ReferenceIdeal.Gen

variable (m : (ℓ : Loc nD τ sig) → Buf (Elt Ideal) ℓ)

/-- The masked scaled rows, as an array. -/
def refLogits (c : Dev nD) : FVec Ideal S16x2048x2048 .f32 :=
  select (broadcastInDim S16x2048x2048 ![0, 1, 2] bcast_S1x2048x2048_S16x2048x2048_0_1_2 (broadcastInDim S1x2048x2048 ![1, 2] bcast_S2048x2048_S1x2048x2048_1_2 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))) (mulf (sitofp .f32 (extsi 32 (m ((c.tc : Thread nD τ).loc main_arg0)) natLt_8_32)) (broadcastInDim S16x2048x2048 ![0, 1, 2] bcast_S16x2048x1_S16x2048x2048_0_1_2 (broadcastInDim S16x2048x1 ![0, 1] bcast_S16x2048_S16x2048x1_0_1 (m ((c.tc : Thread nD τ).loc main_arg1))))) (broadcastInDim S16x2048x2048 ![] bcast_S_S16x2048x2048 (id (constant S_ .f32 0xFF800000#32)))

/-- One number per row, spread over the row. -/
def spread (v : FVec Ideal S16x2048 .f32) : FVec Ideal S16x2048x2048 .f32 :=
  broadcastInDim S16x2048x2048 ![0, 1, 2] bcast_S16x2048x1_S16x2048x2048_0_1_2 (broadcastInDim S16x2048x1 ![0, 1] bcast_S16x2048_S16x2048x1_0_1 v)

/-- The largest entry of each row. -/
def rowTop (L : FVec Ideal S16x2048x2048 .f32) : FVec Ideal S16x2048 .f32 :=
  maximumf (broadcastInDim S16x2048 ![] bcast_S_S16x2048 (constant S_ .f32 0xFF800000#32)) (Host.reduce FloatOps.maximumf L (constant S_ .f32 0xFF800000#32) reducesTo_S16x2048x2048_S16x2048_d2 h_S_)

/-- The exponentials of the rows, each row less its largest entry. -/
def rowExp (L : FVec Ideal S16x2048x2048 .f32) : FVec Ideal S16x2048x2048 .f32 := Host.exp (subf L (spread (rowTop L)))

/-- The sum of each row. -/
def rowSum (E : FVec Ideal S16x2048x2048 .f32) : FVec Ideal S16x2048 .f32 :=
  Host.reduceAdd E (constant S_ .f32 0x00000000#32) reducesTo_S16x2048x2048_S16x2048_d2 h_S_

/-- A row rounded to whole numbers, clipped to a signed byte's range and stored as bytes. -/
def toBytes (Y : FVec Ideal S16x2048x2048 .f32) : IVec S16x2048x2048 8 :=
  trunci 8 (fptosi 32 (minimumf (broadcastInDim S16x2048x2048 ![] bcast_S_S16x2048x2048 (sitofp .f32 (constantI S_ 32 127#32))) (maximumf (broadcastInDim S16x2048x2048 ![] bcast_S_S16x2048x2048 (sitofp .f32 (constantI S_ 32 4294967168#32))) (Host.roundeven Y)))) natLt_8_32

/-- The reference's result is these stages in turn. -/
theorem stages (c : Dev nD) : res_out0 m c
    = toBytes (Host.divf (Host.divf (rowExp (refLogits m c)) (spread (rowSum (rowExp (refLogits m c))))) (spread (m ((c.tc : Thread nD τ).loc main_arg2)))) := rfl

/-- A spread number is the row's number at every column. -/
theorem spread_at (v : FVec Ideal S16x2048 .f32) (h : Fin 16) (i j : Fin 2048) : spread v (ix3 h i j) = v (ix2 h i) := by
  pointwise [spread]

/-- The largest entry along the last of three axes, at any extents. -/
theorem reduce_last {n0 n1 n2 : ℕ} (L : FVec Ideal ⟨3, ![n0, n1, n2]⟩ .f32) (b : EReal) (v : FVec Ideal ⟨0, ![]⟩ .f32) (hv : v ix0 = b)
    (hr : (⟨3, ![n0, n1, n2]⟩ : Shape).ReducesTo [2] ⟨2, ![n0, n1]⟩) (hu : 0 < (⟨0, ![]⟩ : Shape).numel) (h : Fin n0) (i : Fin n1) :
    Host.reduce (FloatOps.maximumf (F := Ideal) (φ := .f32)) L v hr hu (ix2 h i) = Finset.univ.fold max b fun x : Fin n2 => L (ix3 h i x) := by
  have h0 : Shape.Idx.first hu = ix0 := funext fun a => a.elim0
  rw [← hv, ← h0]
  pointwise

/-- The larger of two arrays, entry by entry. -/
theorem larger_at {s : Shape} (x y : FVec Ideal s .f32) (i : s.Idx) : maximumf x y i = max (x i : EReal) (y i) := rfl

/-- A row's largest entry, as a fold over its columns. -/
theorem rowTop_at (L : FVec Ideal S16x2048x2048 .f32) (h : Fin 16) (i : Fin 2048) :
    rowTop L (ix2 h i) = max (Ideal.ofBits .f32 4286578688#32) (Finset.univ.fold max (Ideal.ofBits .f32 4286578688#32) fun x : Fin 2048 => L (ix3 h i x)) := by
  unfold rowTop
  rw [larger_at]
  rw [reduce_last L (Ideal.ofBits .f32 4286578688#32) (constant S_ .f32 0xFF800000#32) rfl reducesTo_S16x2048x2048_S16x2048_d2 h_S_ h i]
  generalize (Finset.univ.fold max (Ideal.ofBits .f32 4286578688#32) fun x : Fin 2048 => L (ix3 h i x)) = z
  rfl

/-- A row's sum, over its columns. -/
theorem rowSum_at (E : FVec Ideal S16x2048x2048 .f32) (h : Fin 16) (i : Fin 2048) : rowSum E (ix2 h i) = ∑ x : Fin 2048, E (ix3 h i x) := by
  pointwise [rowSum]

/-- A row's exponential at a column. -/
theorem rowExp_at (L : FVec Ideal S16x2048x2048 .f32) (h : Fin 16) (i j : Fin 2048) :
    rowExp L (ix3 h i j) = Ideal.exp (L (ix3 h i j) - rowTop L (ix2 h i)) := by
  pointwise [rowExp, spread_at]

/-- The word of minus infinity denotes the least extended real. -/
theorem bits_bot : Ideal.ofBits .f32 4286578688#32 = (⊥ : EReal) := by simp [Ideal.ofBits, Ideal.ieee]

/-- An integer read as a number at 32-bit float is its value. -/
theorem int_value {w : ℕ} (b : BitVec w) : FloatOps.sitofp (F := Ideal) .f32 b = (((b.toInt : ℤ) : ℝ) : EReal) := rfl

/-- A signed byte widened to 32 bits and read as a number is the byte's value. -/
theorem byte_value (b : BitVec 8) : FloatOps.sitofp (F := Ideal) .f32 (BitVec.signExtend 32 b) = (((b.toInt : ℤ) : ℝ) : EReal) := by
  rw [int_value, BitVec.toInt_signExtend_of_le (by norm_num)]

/-- The clip's lower bound is −128. -/
theorem low_bound : FloatOps.sitofp (F := Ideal) .f32 4294967168#32 = (((-128 : ℝ)) : EReal) := by
  rw [int_value, show (4294967168#32).toInt = -128 from by decide]; norm_num

/-- The clip's upper bound is 127. -/
theorem high_bound : FloatOps.sitofp (F := Ideal) .f32 127#32 = (((127 : ℝ)) : EReal) := by
  rw [int_value, show (127#32).toInt = 127 from by decide]; norm_num

/-- The causal mask's choice: the first value on or below the diagonal, the second above it. -/
theorem causal_choice (i x : Fin 2048) (p q : EReal) :
    Scalar.select (Scalar.select (IntOp.cmpi .sge (IntOp.addi (BitVec.ofNat 32 i.val) 0#32) (BitVec.ofNat 32 x.val)) 1#1 0#1) p q
      = if x ≤ i then p else q := by
  rw [show IntOp.addi (BitVec.ofNat 32 i.val) 0#32 = BitVec.ofNat 32 i.val from BitVec.add_zero _,
    WordCmp.cmpi_sge_ofNat (lt_of_lt_of_le i.isLt (by norm_num)) (lt_of_lt_of_le x.isLt (by norm_num))]
  by_cases hx : x.val ≤ i.val
  · rw [if_pos (show x ≤ i from hx), decide_eq_true hx]; rfl
  · rw [if_neg (show ¬x ≤ i from hx), decide_eq_false hx]; rfl

/-- The masked scaled row at a column, for a row whose input scale is a real number. -/
theorem refLogits_at (c : Dev nD) (h : Fin 16) (i x : Fin 2048) (s : ℝ)
    (hs : m ((c : Thread nD τ).loc main_arg1) (ix2 h i) = (s : EReal)) (a : Fin 2048 → ℝ)
    (ha : ∀ k : Fin 2048, a k = ((m ((c : Thread nD τ).loc main_arg0) (ix3 h i k) : BitVec 8).toInt : ℝ) * s) :
    refLogits m c (ix3 h i x) = logit a i x := by
  pointwise [refLogits]
  refine (causal_choice i x _ _).trans ?_
  unfold logit
  rw [byte_value, hs, ← EReal.coe_mul, ← ha]
  exact congrArg (fun z : EReal => if x ≤ i then ((a x : ℝ) : EReal) else z) bits_bot

/-- The clip and the store as a byte, at a column. -/
theorem toBytes_at (Y : FVec Ideal S16x2048x2048 .f32) (h : Fin 16) (i j : Fin 2048) : toBytes Y (ix3 h i j) = quant (Y (ix3 h i j)) := by
  pointwise [toBytes]
  rw [low_bound, high_bound]
  exact quant_clip _

/-- THE REFERENCE AT COORDINATES, for a row whose input scale is a real number and whose output scale is not zero. -/
theorem ref_at (c : Dev nD) (h : Fin 16) (i j : Fin 2048) (s : ℝ)
    (hs : m ((c : Thread nD τ).loc main_arg1) (ix2 h i) = (s : EReal)) (o : EReal)
    (ho : m ((c : Thread nD τ).loc main_arg2) (ix2 h i) = o) (ho0 : o ≠ 0) (a : Fin 2048 → ℝ)
    (ha : ∀ k : Fin 2048, a k = ((m ((c : Thread nD τ).loc main_arg0) (ix3 h i k) : BitVec 8).toInt : ℝ) * s) :
    res_out0 m c (ix3 h i j) = quant ((cexp a i j : EReal) * Ideal.div 1 ((∑ k, (cexp a i k : EReal)) * o)) := by
  have hL : ∀ x : Fin 2048, refLogits m c (ix3 h i x) = logit a i x := fun x => refLogits_at m c h i x s hs a ha
  have hE : ∀ x : Fin 2048, rowExp (refLogits m c) (ix3 h i x)
      = Ideal.exp (logit a i x - max ⊥ (Finset.univ.fold max ⊥ (logit a i))) := fun x => by
    rw [rowExp_at, rowTop_at, bits_bot, hL, show (fun x : Fin 2048 => refLogits m c (ix3 h i x)) = logit a i from funext hL]
  rw [stages, toBytes_at]
  generalize hR : rowExp (refLogits m c) = E at *
  have e : Host.divf (Host.divf E (spread (rowSum E))) (spread (m ((c.tc : Thread nD τ).loc main_arg2))) (ix3 h i j)
      = Ideal.div (Ideal.div (E (ix3 h i j)) (∑ x : Fin 2048, E (ix3 h i x))) (m ((c : Thread nD τ).loc main_arg2) (ix2 h i)) := by
    pointwise [spread_at, rowSum_at]
  rw [e, ho, ← softmax_row a i j o ho0]
  simp only [hE]

end Cert.ReferenceIdeal.Value

end
-- ==== Proof.Usable.lean ====
module

public import proofs.«01_k».proof.Pre_scales_usable
public import Idealize.ShloMosaic.PureOps.Ideal
public import Idealize.ShloMosaic.Lib.ReduceAll
public import Idealize.ShloMosaic.Lib.Pipeline.ValueKit

@[expose] public section

set_option maxRecDepth 16384

/-! What the precondition says of the scales. -/

noncomputable section

open Idealize.ShloMosaic

namespace Cert.Pre_scales_usable

/-- The shape relations the precondition states, decided. -/
instance decided : Cert.Pre_scales_usable.Facts where
  bcast_S_S16x2048 := by decide
  reducesTo_S16x2048_S_d0_1 := by decide
  h_S_ := by decide

/-- A number whose absolute value lies below plus infinity is a real number. -/
theorem real_of_abs_lt (x : EReal) (h : Ideal.cmp .olt (max x (-x)) (Ideal.ofBits .f32 2139095040#32) = 1#1) : ∃ s : ℝ, x = (s : EReal) := by
  have e : Ideal.ofBits .f32 2139095040#32 = (⊤ : EReal) := by simp [Ideal.ofBits, Ideal.ieee]
  rw [e] at h
  induction x using EReal.rec with
  | bot => simp [Ideal.cmp] at h
  | coe s => exact ⟨s, rfl⟩
  | top => simp [Ideal.cmp] at h

/-- A number the comparison finds different from zero is not zero. -/
theorem ne_zero_of_une (x : EReal) (h : Ideal.cmp .une x (Ideal.ofBits .f32 0#32) = 1#1) : x ≠ 0 := by
  rintro rfl
  simp [Ideal.cmp, Ideal.ofBits, Ideal.ieee] at h

/-- Under the precondition every input scale is a real number and no output scale is zero. -/
theorem usable (X : IVec S16x2048x2048 8) (SX SO : FVec Ideal S16x2048 .f32) (h : fn (F := Ideal) X SX SO = fun _ => 1#1) :
    (∀ i : S16x2048.Idx, ∃ s : ℝ, SX i = (s : EReal)) ∧ ∀ i : S16x2048.Idx, SO i ≠ (0 : EReal) := by
  have h0 := congrFun h ix0
  unfold fn at h0
  obtain ⟨h1, h2⟩ := IntOp.andi_eq_one.1 h0
  haveI : Subsingleton S_.Idx := ⟨fun a b => funext fun k => k.elim0⟩
  refine ⟨fun i => real_of_abs_lt _ ?_, fun i => ne_zero_of_une _ ?_⟩
  · exact Host.reduce_andi_all _ _ _ _ ix0 h1 i
  · exact Host.reduce_andi_all _ _ _ _ ix0 h2 i

end Cert.Pre_scales_usable

end
-- ==== Proof.Equation.lean ====
module

public import proofs.«01_k».proof.Defs
public import proofs.«01_k».proof.Proof.Array
public import proofs.«01_k».proof.Proof.Reference
public import proofs.«01_k».proof.Proof.Usable

@[expose] public section

set_option maxRecDepth 16384

/-! The equation: under the precondition, what the reference computes is what the kernel's result array holds. -/

noncomputable section

open Idealize.ShloMosaic Idealize.ShloMosaic.TcCoe Idealize.SL.Sem
open Cert.Rows

namespace Cert.Proof

/-- From arguments that agree, and usable scales, the reference's result is the array the kernel leaves. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scales_usable m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v26 m' c = (Cert.KernelIdeal.Gen.dats m 0 c).arrAt 2 Cert.KernelIdeal.cfg0.N := by
  obtain ⟨hsx, hso⟩ := Cert.Pre_scales_usable.usable _ _ _ (hpre c)
  rw [Cert.KernelIdeal.Value.final m c fun h i => hsx (ix2 h i)]
  funext y
  obtain ⟨s, hs⟩ := hsx (ix2 (y 0) (y 1))
  have hy : y = ix3 (y 0) (y 1) (y 2) := by
    funext a
    fin_cases a <;> rfl
  have e := Cert.ReferenceIdeal.Value.ref_at m' c (y 0) (y 1) (y 2) s ((congrFun h1 _).trans hs) _ (congrFun h2 _) (hso _)
    (fun k => ((m ((c.tc : Thread Cert.KernelIdeal.nD Cert.KernelIdeal.τ).loc Cert.KernelIdeal.main_arg0) (ix3 (y 0) (y 1) k) : BitVec 8).toInt : ℝ) * s)
    (fun k => by rw [h0])
  refine (congrArg (Cert.ReferenceIdeal.Value.res_main_v26 m' c) hy).trans (e.trans ?_)
  unfold Cert.KernelIdeal.Value.OUT
  rw [show (m ((c.tc : Thread Cert.KernelIdeal.nD Cert.KernelIdeal.τ).loc Cert.KernelIdeal.main_arg1) (ix2 (y 0) (y 1)) : EReal).toReal = s from by rw [hs]; rfl]

end Cert.Proof

end
-- ==== Proof.lean ====
/- The proof of the certificate's claims: the three frames, the named constant, and the equation between the kernel's result
   array and the reference's. The mathematics is in Proof/: Block (what one block computes), Array (what the array holds),
   Reference (what the reference computes), Usable (what the precondition says), Equation (the two are equal). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem

/-- The kernel as printed runs, leaves its arguments as they were and ends with every counter at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the idealized kernel under the precondition. -/
theorem frame_ideal_usable : Cert.quiescent_KernelIdeal_pre_scales_usable := fun m ρ _ => Cert.KernelIdeal.Gen.frame m ρ

/-- So does the reference; it has no counters. -/
theorem frame_reference : Cert.quiescent_ReferenceIdeal := fun m ρ _ =>
  (θ_run Cert.ReferenceIdeal.defs _ _).mono (fun r h => ⟨fun c => ⟨(h c).2.2.1, (h c).2.2.2.1, (h c).2.2.2.2⟩,
      sem_eq_zero_of_no_sems (by decide) r.2⟩)
    (Cert.ReferenceIdeal.Value.run (F := Ideal) m ρ)

/-- So does the reference under the precondition. -/
theorem frame_reference_usable : Cert.quiescent_ReferenceIdeal_pre_scales_usable := fun m ρ _ => frame_reference m ρ trivial

/-- The named constant is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

/-- Under the precondition the idealized kernel and the reference end with equal results. -/
theorem algebraic : Cert.algebraic_KernelIdeal_ReferenceIdeal_pre_scales_usable := by
  pair_intro
  · run_from Cert.KernelIdeal.Value.run_blocks m g
  · run_from Cert.ReferenceIdeal.Value.run m' g'
    exact equation m m' hpre _ (hagree _).1 (hagree _).2.1 (hagree _).2.2

/-- Every claim of the certificate. -/
theorem claim : Cert.Claim := ⟨Cert.Kernel.Gen.facts, Cert.KernelIdeal.Gen.facts, Cert.ReferenceIdeal.Gen.facts, Cert.Pre_scales_usable.decided,
  frame_kernel, frame_ideal, frame_ideal_usable, frame_reference, frame_reference_usable, preserves, algebraic⟩

end Cert.Proof

end
